-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1024x200x15 : Shape := ⟨3, ![1024, 200, 15]⟩
abbrev S64x8 : Shape := ⟨2, ![64, 8]⟩
abbrev S240x64 : Shape := ⟨2, ![240, 64]⟩
abbrev S64 : Shape := ⟨1, ![64]⟩
abbrev S_ : Shape := ⟨0, ![]⟩

class Facts : Prop where
  bcast_S_S1024x200x15 : S_.BroadcastsInDim S1024x200x15 (![] : Fin 0 → Fin S1024x200x15.rank)
  reducesTo_S1024x200x15_S_d0_1_2 : S1024x200x15.ReducesTo [0, 1, 2] S_
  h_S_ : 0 < S_.numel

variable [Facts]

def fn {F : FTy → Type} [FloatOps F] (main_arg0 : IVec S1024x200x15 32) (main_arg1 : IVec S1024x200x15 32) (main_arg2 : FVec F S64x8 .f32) (main_arg3 : FVec F S64x8 .f32) (main_arg4 : FVec F S240x64 .f32) (main_arg5 : FVec F S64 .f32) (main_arg6 : IVec S_ 1) : IVec S_ 1 :=
  let main_c : IVec S_ 32 := constantI S_ 32 0#32
  let main_v0 : IVec S1024x200x15 32 := broadcastInDim S1024x200x15 ![] bcast_S_S1024x200x15 main_c
  let main_v1 : IVec S1024x200x15 1 := cmpi .sge main_arg0 main_v0
  let main_c_0 : IVec S_ 32 := constantI S_ 32 16#32
  let main_v2 : IVec S1024x200x15 32 := broadcastInDim S1024x200x15 ![] bcast_S_S1024x200x15 main_c_0
  let main_v3 : IVec S1024x200x15 1 := cmpi .slt main_arg0 main_v2
  let main_v4 : IVec S1024x200x15 1 := andi main_v1 main_v3
  let main_c_1 : IVec S_ 1 := constantI S_ 1 1#1
  let main_v5 : IVec S_ 1 := (fun x v => Host.reduce IntOp.andi x v reducesTo_S1024x200x15_S_d0_1_2 h_S_) main_v4 main_c_1
  let main_c_2 : IVec S_ 32 := constantI S_ 32 0#32
  let main_v6 : IVec S1024x200x15 32 := broadcastInDim S1024x200x15 ![] bcast_S_S1024x200x15 main_c_2
  let main_v7 : IVec S1024x200x15 1 := cmpi .sge main_arg1 main_v6
  let main_c_3 : IVec S_ 32 := constantI S_ 32 16#32
  let main_v8 : IVec S1024x200x15 32 := broadcastInDim S1024x200x15 ![] bcast_S_S1024x200x15 main_c_3
  let main_v9 : IVec S1024x200x15 1 := cmpi .slt main_arg1 main_v8
  let main_v10 : IVec S1024x200x15 1 := andi main_v7 main_v9
  let main_c_4 : IVec S_ 1 := constantI S_ 1 1#1
  let main_v11 : IVec S_ 1 := (fun x v => Host.reduce IntOp.andi x v reducesTo_S1024x200x15_S_d0_1_2 h_S_) main_v10 main_c_4
  let main_v12 : IVec S_ 1 := andi main_v5 main_v11
  main_v12
-- ==== Kernel.lean ====
abbrev S1024x200x15 : Shape := ⟨3, ![1024, 200, 15]⟩
abbrev S64x8 : Shape := ⟨2, ![64, 8]⟩
abbrev S240x64 : Shape := ⟨2, ![240, 64]⟩
abbrev S64 : Shape := ⟨1, ![64]⟩
abbrev S_ : Shape := ⟨0, ![]⟩
abbrev S64x1 : Shape := ⟨2, ![64, 1]⟩
abbrev S64x481 : Shape := ⟨2, ![64, 481]⟩
abbrev S481x31 : Shape := ⟨2, ![481, 31]⟩
abbrev S16x8 : Shape := ⟨2, ![16, 8]⟩
abbrev S8x64 : Shape := ⟨2, ![8, 64]⟩
abbrev S64x16 : Shape := ⟨2, ![64, 16]⟩
abbrev S15x200x1024 : Shape := ⟨3, ![15, 200, 1024]⟩
abbrev S12800x1024 : Shape := ⟨2, ![12800, 1024]⟩
abbrev S15x8x1024 : Shape := ⟨3, ![15, 8, 1024]⟩
abbrev S512x1024 : Shape := ⟨2, ![512, 1024]⟩
abbrev S15x8192 : Shape := ⟨2, ![15, 8192]⟩
abbrev S1x8192 : Shape := ⟨2, ![1, 8192]⟩
abbrev S31x8192 : Shape := ⟨2, ![31, 8192]⟩
abbrev S481x8192 : Shape := ⟨2, ![481, 8192]⟩
abbrev S481x1024 : Shape := ⟨2, ![481, 1024]⟩
abbrev S64x1024 : Shape := ⟨2, ![64, 1024]⟩
abbrev S200x64x1024 : Shape := ⟨3, ![200, 64, 1024]⟩
abbrev S1024x200x64 : Shape := ⟨3, ![1024, 200, 64]⟩

abbrev nBuf : Space → Nat
  | .hbm => 15
  | .vmem => 14
  | .smem => 0
  | _ => 0

abbrev bufTy : (tb : Table) → Fin (tcTables nBuf tb) → BufTy
  | .hbm, ⟨0, _⟩ => ⟨S1024x200x15, .i32⟩
  | .hbm, ⟨1, _⟩ => ⟨S1024x200x15, .i32⟩
  | .hbm, ⟨2, _⟩ => ⟨S64x8, .f32⟩
  | .hbm, ⟨3, _⟩ => ⟨S64x8, .f32⟩
  | .hbm, ⟨4, _⟩ => ⟨S240x64, .f32⟩
  | .hbm, ⟨5, _⟩ => ⟨S64, .f32⟩
  | .hbm, ⟨6, _⟩ => ⟨S_, .i1⟩
  | .hbm, ⟨7, _⟩ => ⟨S64x1, .f32⟩
  | .hbm, ⟨8, _⟩ => ⟨S64x481, .f32⟩
  | .hbm, ⟨9, _⟩ => ⟨S481x31, .bf16⟩
  | .hbm, ⟨10, _⟩ => ⟨S15x200x1024, .i32⟩
  | .hbm, ⟨11, _⟩ => ⟨S15x200x1024, .i32⟩
  | .hbm, ⟨12, _⟩ => ⟨S12800x1024, .f32⟩
  | .hbm, ⟨13, _⟩ => ⟨S200x64x1024, .f32⟩
  | .hbm, ⟨14, _⟩ => ⟨S1024x200x64, .f32⟩
  | .local _ .vmem, ⟨0, _⟩ => ⟨S64x8, .f32⟩
  | .local _ .vmem, ⟨1, _⟩ => ⟨S64x8, .f32⟩
  | .local _ .vmem, ⟨2, _⟩ => ⟨S240x64, .f32⟩
  | .local _ .vmem, ⟨3, _⟩ => ⟨S64x1, .f32⟩
  | .local _ .vmem, ⟨4, _⟩ => ⟨S64x481, .f32⟩
  | .local _ .vmem, ⟨5, _⟩ => ⟨S481x31, .bf16⟩
  | .local _ .vmem, ⟨6, _⟩ => ⟨S15x8x1024, .i32⟩
  | .local _ .vmem, ⟨7, _⟩ => ⟨S15x8x1024, .i32⟩
  | .local _ .vmem, ⟨8, _⟩ => ⟨S15x8x1024, .i32⟩
  | .local _ .vmem, ⟨9, _⟩ => ⟨S15x8x1024, .i32⟩
  | .local _ .vmem, ⟨10, _⟩ => ⟨S64x481, .f32⟩
  | .local _ .vmem, ⟨11, _⟩ => ⟨S481x31, .bf16⟩
  | .local _ .vmem, ⟨12, _⟩ => ⟨S512x1024, .f32⟩
  | .local _ .vmem, ⟨13, _⟩ => ⟨S512x1024, .f32⟩
  | _, _ => ⟨S1024x200x15, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := .none

abbrev stage0_0 : Fin 1 → Memref sig .tc .vmem S64x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S240x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x481 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S481x31 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S15x8x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S15x8x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x481 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S481x31 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S1024x200x15 : Shape := ⟨3, ![1024, 200, 15]⟩
abbrev S64x8 : Shape := ⟨2, ![64, 8]⟩
abbrev S240x64 : Shape := ⟨2, ![240, 64]⟩
abbrev S64 : Shape := ⟨1, ![64]⟩
abbrev S_ : Shape := ⟨0, ![]⟩
abbrev S1024x200x15x1 : Shape := ⟨4, ![1024, 200, 15, 1]⟩
abbrev S1 : Shape := ⟨1, ![1]⟩
abbrev S1x1x1x1 : Shape := ⟨4, ![1, 1, 1, 1]⟩
abbrev S1024x200x15x8 : Shape := ⟨4, ![1024, 200, 15, 8]⟩
abbrev S1024x200x120 : Shape := ⟨3, ![1024, 200, 120]⟩
abbrev S1024x200x240 : Shape := ⟨3, ![1024, 200, 240]⟩
abbrev S1024x200x64 : Shape := ⟨3, ![1024, 200, 64]⟩
abbrev S1x1x64 : Shape := ⟨3, ![1, 1, 64]⟩

abbrev nBuf : Space → Nat
  | .hbm => 60
  | .vmem => 0
  | .smem => 0
  | _ => 0

abbrev bufTy : (tb : Table) → Fin (tcTables nBuf tb) → BufTy
  | .hbm, ⟨0, _⟩ => ⟨S1024x200x15, .i32⟩
  | .hbm, ⟨1, _⟩ => ⟨S1024x200x15, .i32⟩
  | .hbm, ⟨2, _⟩ => ⟨S64x8, .f32⟩
  | .hbm, ⟨3, _⟩ => ⟨S64x8, .f32⟩
  | .hbm, ⟨4, _⟩ => ⟨S240x64, .f32⟩
  | .hbm, ⟨5, _⟩ => ⟨S64, .f32⟩
  | .hbm, ⟨6, _⟩ => ⟨S_, .i1⟩
  | .hbm, ⟨7, _⟩ => ⟨S_, .i32⟩
  | .hbm, ⟨8, _⟩ => ⟨S1024x200x15, .i32⟩
  | .hbm, ⟨9, _⟩ => ⟨S1024x200x15, .i1⟩
  | .hbm, ⟨10, _⟩ => ⟨S_, .i32⟩
  | .hbm, ⟨11, _⟩ => ⟨S1024x200x15, .i32⟩
  | .hbm, ⟨12, _⟩ => ⟨S1024x200x15, .i32⟩
  | .hbm, ⟨13, _⟩ => ⟨S1024x200x15, .i32⟩
  | .hbm, ⟨14, _⟩ => ⟨S1024x200x15x1, .i32⟩
  | .hbm, ⟨15, _⟩ => ⟨S1, .i32⟩
  | .hbm, ⟨16, _⟩ => ⟨S_, .i32⟩
  | .hbm, ⟨17, _⟩ => ⟨S1024x200x15x1, .i32⟩
  | .hbm, ⟨18, _⟩ => ⟨S1024x200x15x1, .i1⟩
  | .hbm, ⟨19, _⟩ => ⟨S1x1x1x1, .i32⟩
  | .hbm, ⟨20, _⟩ => ⟨S1024x200x15x1, .i32⟩
  | .hbm, ⟨21, _⟩ => ⟨S1024x200x15x1, .i1⟩
  | .hbm, ⟨22, _⟩ => ⟨S1024x200x15x1, .i1⟩
  | .hbm, ⟨23, _⟩ => ⟨S_, .i1⟩
  | .hbm, ⟨24, _⟩ => ⟨S1024x200x15, .i1⟩
  | .hbm, ⟨25, _⟩ => ⟨S1024x200x15x8, .f32⟩
  | .hbm, ⟨26, _⟩ => ⟨S1024x200x15x8, .i1⟩
  | .hbm, ⟨27, _⟩ => ⟨S_, .f32⟩
  | .hbm, ⟨28, _⟩ => ⟨S1024x200x15x8, .f32⟩
  | .hbm, ⟨29, _⟩ => ⟨S1024x200x15x8, .f32⟩
  | .hbm, ⟨30, _⟩ => ⟨S1024x200x120, .f32⟩
  | .hbm, ⟨31, _⟩ => ⟨S_, .i32⟩
  | .hbm, ⟨32, _⟩ => ⟨S1024x200x15, .i32⟩
  | .hbm, ⟨33, _⟩ => ⟨S1024x200x15, .i1⟩
  | .hbm, ⟨34, _⟩ => ⟨S_, .i32⟩
  | .hbm, ⟨35, _⟩ => ⟨S1024x200x15, .i32⟩
  | .hbm, ⟨36, _⟩ => ⟨S1024x200x15, .i32⟩
  | .hbm, ⟨37, _⟩ => ⟨S1024x200x15, .i32⟩
  | .hbm, ⟨38, _⟩ => ⟨S1024x200x15x1, .i32⟩
  | .hbm, ⟨39, _⟩ => ⟨S1, .i32⟩
  | .hbm, ⟨40, _⟩ => ⟨S_, .i32⟩
  | .hbm, ⟨41, _⟩ => ⟨S1024x200x15x1, .i32⟩
  | .hbm, ⟨42, _⟩ => ⟨S1024x200x15x1, .i1⟩
  | .hbm, ⟨43, _⟩ => ⟨S1x1x1x1, .i32⟩
  | .hbm, ⟨44, _⟩ => ⟨S1024x200x15x1, .i32⟩
  | .hbm, ⟨45, _⟩ => ⟨S1024x200x15x1, .i1⟩
  | .hbm, ⟨46, _⟩ => ⟨S1024x200x15x1, .i1⟩
  | .hbm, ⟨47, _⟩ => ⟨S_, .i1⟩
  | .hbm, ⟨48, _⟩ => ⟨S1024x200x15, .i1⟩
  | .hbm, ⟨49, _⟩ => ⟨S1024x200x15x8, .f32⟩
  | .hbm, ⟨50, _⟩ => ⟨S1024x200x15x8, .i1⟩
  | .hbm, ⟨51, _⟩ => ⟨S_, .f32⟩
  | .hbm, ⟨52, _⟩ => ⟨S1024x200x15x8, .f32⟩
  | .hbm, ⟨53, _⟩ => ⟨S1024x200x15x8, .f32⟩
  | .hbm, ⟨54, _⟩ => ⟨S1024x200x120, .f32⟩
  | .hbm, ⟨55, _⟩ => ⟨S1024x200x240, .f32⟩
  | .hbm, ⟨56, _⟩ => ⟨S1024x200x64, .f32⟩
  | .hbm, ⟨57, _⟩ => ⟨S1x1x64, .f32⟩
  | .hbm, ⟨58, _⟩ => ⟨S1024x200x64, .f32⟩
  | .hbm, ⟨59, _⟩ => ⟨S1024x200x64, .f32⟩
  | _, _ => ⟨S1024x200x15, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩

abbrev nD : Nat := 1
abbrev τ : Topo := Topo.v7x

variable {F : FTy → Type} [FloatOps F]
-- ==== Proof.KRun.lean ====
/- The idealized kernel's run read at its result: every weakly fair execution ends with the result array at what the
   last stretch of host operations leaves in it, and the arguments as launched. -/
module

public import proofs.«01_k».proof.Proof.Gen.KernelIdeal.Frame

@[expose] public section

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch of `Gen.frame`, with the result array's final contents read beside the arguments'. -/
theorem run : θ_run defs (onTc (τ := τ) (main (F := F))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.Fold

end
-- ==== Proof.PreBounds.lean ====
/- What the precondition says of the index words: each is at least 0 and less than 16. -/
module

public import proofs.«01_k».proof.Proof.Gen.Pre_in_range
public import Idealize.ShloMosaic.Lib.ReduceAll
public import Idealize.ShloMosaic.Lib.Affine

@[expose] public section

noncomputable section

namespace Cert.Pre_in_range.Bounds

open Cert.Pre_in_range Idealize.ShloMosaic

instance : Subsingleton S_.Idx := ⟨fun a b => funext fun i => i.elim0⟩

variable [Cert.Pre_in_range.Facts] {F : FTy → Type} [FloatOps F]

/-- An array of words whose every element tests at least 0 and less than 16. -/
theorem of_all (x : IVec S1024x200x15 32) (j : S_.Idx)
    (h : Host.reduce IntOp.andi (andi (cmpi .sge x (broadcastInDim S1024x200x15 ![] Facts.bcast_S_S1024x200x15 (constantI S_ 32 0#32)))
        (cmpi .slt x (broadcastInDim S1024x200x15 ![] Facts.bcast_S_S1024x200x15 (constantI S_ 32 16#32))))
      (constantI S_ 1 1#1) Facts.reducesTo_S1024x200x15_S_d0_1_2 Facts.h_S_ j = 1#1) (i : S1024x200x15.Idx) :
    0 ≤ (x i).toInt ∧ (x i).toInt < 16 := by
  have e := Host.reduce_andi_all _ _ _ _ j h i
  obtain ⟨h0, h1⟩ := IntOp.andi_eq_one.mp e
  exact ⟨IntOp.cmpi_sge.mp h0, IntOp.cmpi_slt.mp h1⟩

theorem bounds (x0 x1 : IVec S1024x200x15 32) (x2 x3 : FVec F S64x8 .f32) (x4 : FVec F S240x64 .f32)
    (x5 : FVec F S64 .f32) (x6 : IVec S_ 1) (j : S_.Idx) (h : Cert.Pre_in_range.fn (F := F) x0 x1 x2 x3 x4 x5 x6 j = 1#1) :
    (∀ i, 0 ≤ (x0 i).toInt ∧ (x0 i).toInt < 16) ∧ (∀ i, 0 ≤ (x1 i).toInt ∧ (x1 i).toInt < 16) := by
  dsimp only [Cert.Pre_in_range.fn] at h
  obtain ⟨h0, h1⟩ := IntOp.andi_eq_one.mp h
  exact ⟨of_all x0 j h0, of_all x1 j h1⟩

end Cert.Pre_in_range.Bounds

end
-- ==== Proof.KFold.lean ====
/- What the first kernel leaves: the two tables read through the weights, one column per (feature, table row) and one for
   the bias, and the matrix of small integers that tests a feature's index against a table row. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Fold

open Cert.KernelIdeal Cert.KernelIdeal.Gen
open Idealize.ShloMosaic Idealize.ShloMosaic.TcCoe
open scoped BigOperators

/-- Feature `j`'s table: the goal table for the first fifteen features, the rule table for the others. -/
def tab {α : Type} (x0 x1 : α) (j : ℕ) : α := if j < 15 then x0 else x1

theorem inbW (j : Fin 30) : ∀ a, (![8 * j.val, 0] : Fin 2 → ℕ) a + S8x64.size a ≤ S240x64.size a := by
  intro a; have := j.isLt
  match a with
  | ⟨0, _⟩ => show 8 * j.val + 8 ≤ 240; omega
  | ⟨1, _⟩ => show 0 + 64 ≤ 64; omega

/-- Feature `j`'s block of columns: its eight rows of the weights against the first sixteen rows of its table. -/
def blockT (x0 x1 : Vec Ideal S64x8 .f32) (x2 : Vec Ideal S240x64 .f32) (j : Fin 30) : FVec Ideal S64x16 .f32 :=
  k0_pay2 (View.ld (tab x0 x1 j.val) r0_0) (View.ld x2 (Rect.unit (s := S240x64) ![8 * j.val, 0] S8x64.size (inbW j)))

theorem blockT_apply (x0 x1 : Vec Ideal S64x8 .f32) (x2 : Vec Ideal S240x64 .f32) (j : Fin 30) (h : Fin 64) (v : Fin 16) :
    blockT x0 x1 x2 j (ix2 h v)
      = ∑ e : Fin 8, x2 (ix2 ⟨8 * j.val + e.val, by omega⟩ h) * tab x0 x1 j.val (ix2 ⟨v.val, by omega⟩ e) := by
  unfold blockT
  pointwise [k0_pay2]

/-- The thirty blocks and the bias side by side. -/
def piecesT (x0 x1 : Vec Ideal S64x8 .f32) (x2 : Vec Ideal S240x64 .f32) (x3 : Vec Ideal S64x1 .f32) :
    List ((s : Shape) × (s.Idx → Ideal .f32)) :=
  (List.ofFn fun j : Fin 30 => (⟨S64x16, blockT x0 x1 x2 j⟩ : (s : Shape) × (s.Idx → Ideal .f32))) ++ [⟨S64x1, x3⟩]

theorem shapesT (x0 x1 : Vec Ideal S64x8 .f32) (x2 : Vec Ideal S240x64 .f32) (x3 : Vec Ideal S64x1 .f32) :
    (piecesT x0 x1 x2 x3).map (·.1) = List.replicate 30 S64x16 ++ [S64x1] := rfl

/-- The extents along the columns of the first `k` pieces add up to `16 k`. -/
theorem preT : ∀ k : Fin 31, (((List.replicate 30 S64x16 ++ [S64x1]).take k.val).map fun s : Shape =>
    if h : s.rank = S64x481.rank then s.size ((1 : Fin S64x481.rank).cast h.symm) else 0).sum = 16 * k.val := by
  decide +kernel

theorem concT (x0 x1 : Vec Ideal S64x8 .f32) (x2 : Vec Ideal S240x64 .f32) (x3 : Vec Ideal S64x1 .f32) :
    Shape.Concatenates ((piecesT x0 x1 x2 x3).map (·.1)) S64x481 1 := by
  rw [shapesT]; decide

/-- The table that the first kernel leaves. -/
def T (x0 x1 : Vec Ideal S64x8 .f32) (x2 : Vec Ideal S240x64 .f32) (x3 : Vec Ideal S64x1 .f32) : Vec Ideal S64x481 .f32 :=
  concatenate S64x481 1 (piecesT x0 x1 x2 x3) (concT x0 x1 x2 x3)

/-- The first kernel's table output, whole, is `T` of its inputs. -/
theorem out0_4_eq (x0 x1 : Vec Ideal S64x8 .f32) (x2 : Vec Ideal S240x64 .f32) (x3 : Vec Ideal S64x1 .f32) :
    out0_4 x0 x1 x2 x3 = T x0 x1 x2 x3 := by
  have e3 : (fun p : Vec Ideal S64x1 .f32 => shapeCast S64x1 p (by decide)) x3 = x3 := by
    funext i; pointwise
  have e : out0_4 x0 x1 x2 x3
      = T x0 x1 x2 ((fun p : Vec Ideal S64x1 .f32 => shapeCast S64x1 p (by decide)) x3) := by
    unfold out0_4
    rw [View.canon_unit_zero (by funext a; fin_cases a <;> rfl)]
    rw [View.ld_unit_zero (by funext a; fin_cases a <;> rfl) (X := x3)]
    rfl
  rw [e, e3]

/-- A feature's column: its eight weights against its row of the table. -/
theorem T_feature (x0 x1 : Vec Ideal S64x8 .f32) (x2 : Vec Ideal S240x64 .f32) (x3 : Vec Ideal S64x1 .f32)
    (h : Fin 64) (j : Fin 30) (v : Fin 16) (c : Fin 481) (hc : c.val = 16 * j.val + v.val) :
    T x0 x1 x2 x3 (ix2 h c)
      = ∑ e : Fin 8, x2 (ix2 ⟨8 * j.val + e.val, by omega⟩ h) * tab x0 x1 j.val (ix2 ⟨v.val, by omega⟩ e) := by
  rw [← blockT_apply x0 x1 x2 j h v]
  refine concatenate_apply_piece (t := S64x481) 1 _ (concT x0 x1 x2 x3) _ j.val
    (by have := j.isLt; simp [piecesT]; omega) S64x16 (blockT x0 x1 x2 j) ?_ rfl (16 * j.val) ?_ (ix2 h v) ?_ ?_
  · unfold piecesT
    rw [List.getElem_append_left (by simp), List.getElem_ofFn]
  · rw [List.map_take, shapesT]
    exact preT ⟨j.val, by omega⟩
  · intro b hb
    match b with
    | ⟨0, _⟩ => rfl
    | ⟨1, _⟩ => exact absurd rfl hb
  · exact hc.symm

/-- The last column: the bias. -/
theorem T_bias (x0 x1 : Vec Ideal S64x8 .f32) (x2 : Vec Ideal S240x64 .f32) (x3 : Vec Ideal S64x1 .f32)
    (h : Fin 64) (c : Fin 481) (hc : c.val = 480) : T x0 x1 x2 x3 (ix2 h c) = x3 (ix2 h 0) := by
  refine concatenate_apply_piece (t := S64x481) 1 _ (concT x0 x1 x2 x3) _ 30
    (by simp [piecesT]) S64x1 x3 ?_ rfl 480 ?_ (ix2 h 0) ?_ ?_
  · unfold piecesT
    rw [List.getElem_append_right (by simp)]
    simp
  · rw [List.map_take, shapesT]
    exact preT 30
  · intro b hb
    match b with
    | ⟨0, _⟩ => rfl
    | ⟨1, _⟩ => exact absurd rfl hb
  · exact hc.symm

/-- The integer in row `c`, column `j` of the testing matrix. -/
def E (c j : ℕ) : ℤ := if c = 480 then 0 else if j = 30 then -((c % 16 : ℕ) : ℤ) else if j = c / 16 then 1 else 0

/-- The testing matrix that the first kernel leaves. -/
def EM : Vec Ideal S481x31 .bf16 := fun i => (((E (i 0).val (i 1).val : ℤ) : ℝ) : EReal)

theorem out0_5_eq (x0 x1 : Vec Ideal S64x8 .f32) (x2 : Vec Ideal S240x64 .f32) (x3 : Vec Ideal S64x1 .f32) :
    out0_5 x0 x1 x2 x3 = EM := by
  unfold out0_5
  rw [View.canon_unit_zero (by funext a; fin_cases a <;> rfl)]
  funext i
  idx_vars i
  unfold EM
  pointwise [k0_pay1, k0_pay33, k0_pay34, k0_pay35, k0_pay36, k0_pay37]
  show (((BitVec.toInt _ : ℤ) : ℝ) : EReal) = _
  congr 2
  revert i0 i1
  decide +kernel

end Cert.KernelIdeal.Fold

end
-- ==== Proof.KMain.lean ====
/- What one grid point of the second kernel computes: the table's columns picked by a 0/1 array, which holds a one where a
   feature's index is the column's table row. -/
module

public import proofs.«01_k».proof.Proof.KFold

@[expose] public section

set_option maxRecDepth 16384

noncomputable section

namespace Cert.KernelIdeal.Fold

open Cert.KernelIdeal Cert.KernelIdeal.Gen
open Idealize.ShloMosaic Idealize.ShloMosaic.TcCoe
open scoped BigOperators

/-- A finite sum of integers, read as an extended real. -/
theorem coe_int_sum {ι : Type} [Fintype ι] (f : ι → ℤ) :
    (((∑ i, f i : ℤ) : ℝ) : EReal) = ∑ i, ((f i : ℝ) : EReal) := by
  classical
  induction (Finset.univ : Finset ι) using Finset.induction_on with
  | empty => simp
  | insert a s ha ih => rw [Finset.sum_insert ha, Finset.sum_insert ha, ← ih]; push_cast; rfl

/-- Row `c` of the testing matrix against any column of integers that ends in a one: the entry of `c`'s feature less `c`'s
    table row, and zero in the last row. -/
theorem E_sum (c : ℕ) (hc : c < 481) (w : Fin 31 → ℤ) (hw : w 30 = 1) :
    ∑ k : Fin 31, E c k.val * w k
      = if h : c < 480 then w ⟨c / 16, by omega⟩ - ((c % 16 : ℕ) : ℤ) else 0 := by
  split
  · rename_i h
    have hcne : c ≠ 480 := by omega
    rw [Fin.sum_univ_castSucc]
    rw [Finset.sum_eq_single (⟨c / 16, by omega⟩ : Fin 30)]
    · have h1 : ((⟨c / 16, by omega⟩ : Fin 30).castSucc).val = c / 16 := rfl
      have h2 : (Fin.last 30).val = 30 := rfl
      have h3 : c / 16 ≠ 30 := by omega
      rw [h1, h2, show (Fin.last 30 : Fin 31) = 30 from rfl, hw]
      simp only [E, hcne, h3, if_false, if_true]
      show 1 * w _ + _ = w _ - _
      rw [show (⟨c / 16, by omega⟩ : Fin 30).castSucc = (⟨c / 16, by omega⟩ : Fin 31) from rfl]
      ring
    · intro k _ hk
      have h1 : k.castSucc.val = k.val := rfl
      have h2 : k.val ≠ c / 16 := fun e => hk (Fin.ext e)
      have h3 : k.val ≠ 30 := by omega
      rw [h1]
      simp only [E, hcne, h2, h3, if_false, zero_mul]
    · intro hn; exact absurd (Finset.mem_univ _) hn
  · have : c = 480 := by omega
    simp [E, this]

/-- Feature `k`'s index word out of fifteen goals and fifteen rules: the goals first, then the rules; past them, a one. -/
def feat (g r : Fin 15 → BitVec 32) (k : ℕ) : BitVec 32 :=
  if h : k < 15 then g ⟨k, h⟩ else if h : k - 15 < 15 then r ⟨k - 15, h⟩ else 1#32

/-- Feature `k`'s index word at row `s`, column `b` of a block. -/
def word (v0 v3 : Vec Ideal S15x8x1024 .i32) (s : Fin 8) (b : Fin 1024) (k : ℕ) : BitVec 32 :=
  feat (fun j => v0 (ix3 j s b)) (fun j => v3 (ix3 j s b)) k

/-- The product of the testing matrix and a block's index words is a sum of integers. -/
theorem sitofp_sum (v0 v3 : Vec Ideal S15x8x1024 .i32) (c : Fin 481) (s : Fin 8) (b : Fin 1024) :
    ∑ x : Fin 31, EM (ix2 c x) * FloatOps.sitofp (F := Ideal) FTy.bf16 (word v0 v3 s b x.val)
      = (((∑ x : Fin 31, E c.val x.val * (word v0 v3 s b x.val).toInt : ℤ) : ℝ) : EReal) := by
  rw [coe_int_sum]
  refine Finset.sum_congr rfl fun x _ => ?_
  push_cast
  rfl

/-- Row `c` of the testing matrix vanishes on a block's index words exactly where `c`'s feature has `c`'s table row as its
    index; its last row vanishes everywhere. -/
theorem sitofp_sum_eq_zero (v0 v3 : Vec Ideal S15x8x1024 .i32) (c : Fin 481) (s : Fin 8) (b : Fin 1024) :
    (∑ x : Fin 31, EM (ix2 c x) * FloatOps.sitofp (F := Ideal) FTy.bf16 (word v0 v3 s b x.val) = 0)
      ↔ (c.val < 480 → (word v0 v3 s b (c.val / 16)).toInt = ((c.val % 16 : ℕ) : ℤ)) := by
  refine (Eq.congr_left (sitofp_sum v0 v3 c s b)).trans ?_
  rw [E_sum c.val c.isLt (fun x => (word v0 v3 s b x.val).toInt) (by rfl), EReal.coe_eq_zero, Int.cast_eq_zero]
  by_cases h : c.val < 480
  · rw [dif_pos h, sub_eq_zero]; exact ⟨fun e _ => e, fun e => e h⟩
  · rw [dif_neg h]; exact ⟨fun _ h' => absurd h' h, fun _ => rfl⟩

/-- The 0/1 array at row `c`: a one where `c`'s feature has `c`'s table row as its index, and all along the last row. Its
    column holds the block's row in units of 1024, and the block's column in the rest. -/
theorem oneHot_column (v0 v3 : Vec Ideal S15x8x1024 .i32) (c : Fin 481) (l : Fin 8192) :
    (k1_pay1 v0 v3 EM : FVec Ideal S481x8192 .f32) (ix2 c l)
      = if c.val < 480 → (word v0 v3 ⟨l.val / 1024, by omega⟩ ⟨l.val % 1024, by omega⟩ (c.val / 16)).toInt
            = ((c.val % 16 : ℕ) : ℤ) then (1 : EReal) else 0 := by
  have key := sitofp_sum_eq_zero v0 v3 c ⟨l.val / 1024, by omega⟩ ⟨l.val % 1024, by omega⟩
  pointwise [k1_pay1]
  by_cases hk : c.val < 480 → (word v0 v3 ⟨l.val / 1024, by omega⟩ ⟨l.val % 1024, by omega⟩ (c.val / 16)).toInt
      = ((c.val % 16 : ℕ) : ℤ)
  · exact (if_pos (key.mpr hk)).trans (if_pos hk).symm
  · exact (if_neg (fun e => hk (key.mp e))).trans (if_neg hk).symm

/-- `oneHot_column` with the column given by its row and column of the block. -/
theorem oneHot_apply (v0 v3 : Vec Ideal S15x8x1024 .i32) (c : Fin 481) (s : Fin 8) (b : Fin 1024) (l : Fin 8192)
    (hl : l.val = 1024 * s.val + b.val) :
    (k1_pay1 v0 v3 EM : FVec Ideal S481x8192 .f32) (ix2 c l)
      = if c.val < 480 → (word v0 v3 s b (c.val / 16)).toInt = ((c.val % 16 : ℕ) : ℤ) then (1 : EReal) else 0 := by
  have hs : (⟨l.val / 1024, by omega⟩ : Fin 8) = s := Fin.ext (by show l.val / 1024 = s.val; omega)
  have hb : (⟨l.val % 1024, by omega⟩ : Fin 1024) = b := Fin.ext (by show l.val % 1024 = b.val; omega)
  rw [oneHot_column, hs, hb]

/-- The columns of `t` whose table row is their feature's index, summed; the last column always counts. -/
def pickAt (t : Fin 481 → EReal) (g r : Fin 15 → BitVec 32) : EReal :=
  ∑ c : Fin 481, t c
    * if c.val < 480 → (feat g r (c.val / 16)).toInt = ((c.val % 16 : ℕ) : ℤ) then (1 : EReal) else 0

/-- What the point leaves at row `64 s + h`, column `b` of its block. -/
def pick (v0 v3 : Vec Ideal S15x8x1024 .i32) (t : Vec Ideal S64x481 .f32) (s : Fin 8) (h : Fin 64) (b : Fin 1024) : EReal :=
  pickAt (fun c => t (ix2 h c)) (fun j => v0 (ix3 j s b)) (fun j => v3 (ix3 j s b))

/-- A load through the whole buffer is its contents; the same payload follows each of the eight stores, at its own columns. -/
theorem store_apply (x0 x1 : Vec Ideal S15x8x1024 .i32) (v16 : FVec Ideal S481x8192 .f32) (hv : v16 = k1_pay1 x0 x1 EM)
    (t t' : Vec Ideal S64x481 .f32) (ht : t' = t) (o : ℕ) (hc : S64x481.ShapeCasts S64x481)
    (hsl : S481x8192.Slices ![0, o] S481x1024)
    (y0 : Fin 64) (y1 : Fin 1024) (s : Fin 8) (h : Fin 64) (b : Fin 1024)
    (ho : o = 1024 * s.val) (h0 : y0.val = h.val) (h1 : y1.val = b.val) :
    matmul (φ₁ := .f32) (φ₂ := .f32) dot_S64x481_S481x1024_S64x1024_1_0_0_1_n_n none (shapeCast S64x481 t' hc)
      (extractStridedSlice S481x1024 ![0, o] v16 hsl) (constant S64x1024 .f32 0x00000000#32) (ix2 y0 y1)
      = pick x0 x1 t s h b := by
  obtain rfl : y0 = h := Fin.ext h0
  obtain rfl : y1 = b := Fin.ext h1
  subst ht hv ho
  pointwise
  unfold pick pickAt
  refine Finset.sum_congr rfl fun c _ => ?_
  rw [oneHot_apply x0 x1 c s y1 _ rfl]
  rfl

/-- Eight stores, one per row of the block's index arrays: each is the table times its 1024 columns of the 0/1 array. -/
theorem out1_4_apply (x0 x1 : Vec Ideal S15x8x1024 .i32) (x2 : Vec Ideal S64x481 .f32) (s : Fin 8) (h : Fin 64)
    (b : Fin 1024) (r : Fin 512) (hr : r.val = 64 * s.val + h.val) :
    out1_4 x0 x1 x2 EM (ix2 r b) = pick x0 x1 x2 s h b := by
  have hz3 : (![0, 0, 0] : Fin 3 → ℕ) = fun _ => 0 := by funext a; fin_cases a <;> rfl
  have hz2 : (![0, 0] : Fin 2 → ℕ) = fun _ => 0 := by funext a; fin_cases a <;> rfl
  have e0 : View.ld x0 r1_0 = x0 := View.ld_unit_zero hz3 _ _
  have e1 : View.ld x1 r1_0 = x1 := View.ld_unit_zero hz3 _ _
  have e2 : View.ld x2 r1_2 = x2 := View.ld_unit_zero hz2 _ _
  have e3 : View.ld EM r1_1 = EM := View.ld_unit_zero hz2 _ _
  have e10 : k1_pay10 x0 x1 x2 EM = k1_pay1 x0 x1 EM := by
    unfold k1_pay10
    rw [e0, e1, e3]
  unfold out1_4
  rw [e0, e1, e2, e3, e10]
  canon_tiles y hy
  all_goals
    idx_vars y
    open_payloads
    refine store_apply x0 x1 _ rfl x2 _ rfl _ _ _ y0 y1 s h b ?_ ?_ ?_ <;> omega

end Cert.KernelIdeal.Fold

end
-- ==== Proof.KValue.lean ====
/- The idealized kernel's result at an index: batch `b`, step `S` and channel `h` hold the table's row `h`, summed over the
   columns that the thirty indices at `(b, S)` pick. -/
module

public import proofs.«01_k».proof.Proof.KMain
public import Idealize.ShloMosaic.Lib.StableHlo.Run

@[expose] public section

set_option maxRecDepth 16384

noncomputable section

namespace Cert.KernelIdeal.Fold

open Cert.KernelIdeal Cert.KernelIdeal.Gen
open Idealize.ShloMosaic Idealize.ShloMosaic.TcCoe Idealize.ShloMosaic.StableHlo
open scoped BigOperators

variable (m : (ℓ : Loc nD τ sig) → Buf (Elt Ideal) ℓ) (ρ : Dev nD → PrngReg)

/-- The table that the arguments give. -/
def TA (c : Dev nD) : Vec Ideal S64x481 .f32 :=
  T (m ((c.tc : Thread nD τ).loc main_arg2)) (m ((c.tc : Thread nD τ).loc main_arg3)) (m ((c.tc : Thread nD τ).loc main_arg4))
    (shapeCast S64x1 (m ((c.tc : Thread nD τ).loc main_arg5)) shapeCasts_S64_S64x1)

/-- The first region's windows sit at the origin. -/
theorem index0 : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The second region's windows: the indices advance along the steps, the output along its rows, and the table and the
    testing matrix sit at the origin. -/
theorem index1 : ∀ t : Fin cfg1.N, win1_0.index t = ![0, t.val, 0] ∧ win1_1.index t = ![0, t.val, 0]
    ∧ win1_2.index t = ![0, 0] ∧ win1_3.index t = ![0, 0] ∧ win1_4.index t = ![t.val, 0] :=
  (by decide +kernel : ∀ t : Fin grid1.N, _)

/-- The bias as a column. -/
theorem bias_col (c : Dev nD) : W1 m ρ c (Proc.devRef .tc main_v0)
    = shapeCast S64x1 (m ((c.tc : Thread nD τ).loc main_arg5)) shapeCasts_S64_S64x1 := by
  after_results_simp
  rfl

/-- The first region's four inputs are whole arrays: three arguments, and the bias as a column. -/
theorem blocks0 (c : Dev nD) (t : Fin cfg0.N) :
    iblk0 (V1 m ρ) c 0 t = m ((c.tc : Thread nD τ).loc main_arg2)
    ∧ iblk0 (V1 m ρ) c 1 t = m ((c.tc : Thread nD τ).loc main_arg3)
    ∧ iblk0 (V1 m ρ) c 2 t = m ((c.tc : Thread nD τ).loc main_arg4)
    ∧ iblk0 (V1 m ρ) c 3 t = shapeCast S64x1 (m ((c.tc : Thread nD τ).loc main_arg5)) shapeCasts_S64_S64x1 := by
  rw [← W1_args m ρ c main_arg2 (by decide), ← W1_args m ρ c main_arg3 (by decide),
    ← W1_args m ρ c main_arg4 (by decide), ← bias_col m ρ c]
  refine ⟨?_, ?_, ?_, ?_⟩
  all_goals
    funext y
    blk_ext [iblk0, index0 t]

/-- The first region leaves the table. -/
theorem table_arr (c : Dev nD) : W3 m ρ c (Proc.devRef .tc main_v1_0) = TA m c := by
  rw [W3_of m ρ c main_v1_0 (by decide)]
  refine (W2_arr m ρ c 4).trans ?_
  refine (dat0 (V1 m ρ) c).arrAt_eq_of_covers 4 _ (by decide +kernel) fun t hf y => ?_
  obtain ⟨h0, h1, h2, h3⟩ := blocks0 m ρ c t
  blk_simp
  rw [after0_4, out0_4_eq, h0, h1, h2, h3]
  show TA m c y = _
  blk_ext [index0 t]

/-- The first region leaves the testing matrix. -/
theorem test_arr (c : Dev nD) : W3 m ρ c (Proc.devRef .tc main_v1_1) = EM := by
  rw [W3_of m ρ c main_v1_1 (by decide)]
  refine (W2_arr m ρ c 5).trans ?_
  refine (dat0 (V1 m ρ) c).arrAt_eq_of_covers 5 _ (by decide +kernel) fun t hf y => ?_
  blk_simp
  rw [after0_5, out0_5_eq]
  blk_ext [index0 t]

/-- The goals, their axes reversed. -/
theorem goals_arr (c : Dev nD) (k : Fin 15) (S : Fin 200) (b : Fin 1024) :
    W3 m ρ c (Proc.devRef .tc main_v2) (ix3 k S b) = m ((c.tc : Thread nD τ).loc main_arg0) (ix3 b S k) := by
  rw [← W2_args m ρ c main_arg0 (by decide)]
  after_results_simp
  pointwise

/-- The rules, their axes reversed. -/
theorem rules_arr (c : Dev nD) (k : Fin 15) (S : Fin 200) (b : Fin 1024) :
    W3 m ρ c (Proc.devRef .tc main_v3) (ix3 k S b) = m ((c.tc : Thread nD τ).loc main_arg1) (ix3 b S k) := by
  rw [← W2_args m ρ c main_arg1 (by decide)]
  after_results_simp
  pointwise

/-- Row `64 S + h` of the second region's output holds step `S` of channel `h`. -/
def rowsOut (c : Dev nD) : Vec Ideal S12800x1024 .f32 := fun i =>
  pickAt (fun d => TA m c (ix2 ⟨(i 0).val % 64, by omega⟩ d))
    (fun k => m ((c.tc : Thread nD τ).loc main_arg0) (ix3 (i 1) ⟨(i 0).val / 64, by have := (i 0).isLt; simp at this; omega⟩ k))
    (fun k => m ((c.tc : Thread nD τ).loc main_arg1) (ix3 (i 1) ⟨(i 0).val / 64, by have := (i 0).isLt; simp at this; omega⟩ k))

/-- `rowsOut` with the row given by its step and its channel. -/
theorem rowsOut_apply (c : Dev nD) (r : Fin 12800) (b : Fin 1024) (S : Fin 200) (h : Fin 64) (hr : r.val = 64 * S.val + h.val) :
    rowsOut m c (ix2 r b)
      = pickAt (fun d => TA m c (ix2 h d)) (fun k => m ((c.tc : Thread nD τ).loc main_arg0) (ix3 b S k))
          (fun k => m ((c.tc : Thread nD τ).loc main_arg1) (ix3 b S k)) := by
  have hS : (⟨r.val / 64, by omega⟩ : Fin 200) = S := Fin.ext (by show r.val / 64 = S.val; omega)
  have hh : (⟨r.val % 64, by omega⟩ : Fin 64) = h := Fin.ext (by show r.val % 64 = h.val; omega)
  have e : rowsOut m c (ix2 r b) = pickAt (fun d => TA m c (ix2 ⟨r.val % 64, by omega⟩ d))
      (fun k => m ((c.tc : Thread nD τ).loc main_arg0) (ix3 b ⟨r.val / 64, by omega⟩ k))
      (fun k => m ((c.tc : Thread nD τ).loc main_arg1) (ix3 b ⟨r.val / 64, by omega⟩ k)) := rfl
  rw [e, hS, hh]

/-- The second region's blocks: eight steps of the goals and of the rules, the whole table and the whole testing matrix. -/
theorem blocks1 (c : Dev nD) (t : Fin cfg1.N) :
    (∀ (k : Fin 15) (s : Fin 8) (b : Fin 1024) (S : Fin 200), S.val = 8 * t.val + s.val →
      (iblk1 (V3 m ρ) c 0 t : Vec Ideal S15x8x1024 .i32) (ix3 k s b) = m ((c.tc : Thread nD τ).loc main_arg0) (ix3 b S k))
    ∧ (∀ (k : Fin 15) (s : Fin 8) (b : Fin 1024) (S : Fin 200), S.val = 8 * t.val + s.val →
      (iblk1 (V3 m ρ) c 1 t : Vec Ideal S15x8x1024 .i32) (ix3 k s b) = m ((c.tc : Thread nD τ).loc main_arg1) (ix3 b S k))
    ∧ iblk1 (V3 m ρ) c 2 t = TA m c
    ∧ iblk1 (V3 m ρ) c 3 t = EM := by
  refine ⟨fun k s b S hS => ?_, fun k s b S hS => ?_, ?_, ?_⟩
  · rw [← goals_arr m ρ c]
    blk_ext [iblk1, index1 t]
  · rw [← rules_arr m ρ c]
    blk_ext [iblk1, index1 t]
  · rw [← table_arr m ρ c]
    funext y
    blk_ext [iblk1, index1 t]
  · rw [← test_arr m ρ c]
    funext y
    blk_ext [iblk1, index1 t]

/-- The second region's output. -/
theorem rows_arr (c : Dev nD) : W4 m ρ c (Proc.devRef .tc main_v4) = rowsOut m c := by
  refine (W4_arr m ρ c 4).trans ?_
  refine (dat1 (V3 m ρ) c).arrAt_eq_of_covers 4 _ (by decide +kernel) fun t hf y => ?_
  obtain ⟨h0, h1, h2, h3⟩ := blocks1 m ρ c t
  blk_simp
  rw [after1_4, h2, h3]
  idx_vars y
  have ht : t.val < 25 := t.isLt
  have e : ((View.whole main_v4).slice (win1_4.rect t)).emb (ix2 y0 y1)
      = (ix2 ⟨512 * t.val + y0.val, by omega⟩ y1 : S12800x1024.Idx) := by
    blk_ext [index1 t]
  refine (out1_4_apply _ _ _ ⟨y0.val / 64, by omega⟩ ⟨y0.val % 64, by omega⟩ y1 y0
    (by show y0.val = 64 * (y0.val / 64) + y0.val % 64; omega)).trans ?_
  refine Eq.trans ?_ (congrArg (rowsOut m c) e).symm
  rw [rowsOut_apply m c _ y1 ⟨8 * t.val + y0.val / 64, by omega⟩ ⟨y0.val % 64, by omega⟩
    (by show 512 * t.val + y0.val = 64 * (8 * t.val + y0.val / 64) + y0.val % 64; omega)]
  unfold pick
  exact congrArg₂ (pickAt _) (funext fun j => h0 j ⟨y0.val / 64, by omega⟩ y1 ⟨8 * t.val + y0.val / 64, by omega⟩ rfl)
    (funext fun j => h1 j ⟨y0.val / 64, by omega⟩ y1 ⟨8 * t.val + y0.val / 64, by omega⟩ rfl)

/-- The result: batch `b`, step `S`, channel `h`. -/
theorem result_apply (c : Dev nD) (b : Fin 1024) (S : Fin 200) (h : Fin 64) :
    W5 m ρ c (Proc.devRef .tc main_v6) (ix3 b S h)
      = pickAt (fun d => TA m c (ix2 h d)) (fun k => m ((c.tc : Thread nD τ).loc main_arg0) (ix3 b S k))
          (fun k => m ((c.tc : Thread nD τ).loc main_arg1) (ix3 b S k)) := by
  after_results_simp
  rw [rows_arr]
  pointwise
  exact rowsOut_apply m c _ b S h (by show S.val * 64 + h.val = 64 * S.val + h.val; omega)

end Cert.KernelIdeal.Fold

end
-- ==== Proof.RefVal.lean ====
/- The reference at an index, when every index names a table row: the 240 embedded numbers of a batch and a step against the
   weights, and the bias. -/
module

public import proofs.«01_k».proof.Proof.Gen.ReferenceIdeal.Run
public import Idealize.ShloMosaic.Lib.ReduceAll
public import Idealize.ShloMosaic.Lib.Affine
public import Idealize.ShloMosaic.Lib.Pointwise

@[expose] public section

set_option maxRecDepth 16384

noncomputable section

namespace Cert.ReferenceIdeal.Look

open Cert.ReferenceIdeal Cert.ReferenceIdeal.Gen Cert.ReferenceIdeal.Value
open Idealize.ShloMosaic Idealize.ShloMosaic.TcCoe
open scoped BigOperators

/-- The index words as the gather takes them: a negative one is counted from the table's end. -/
def wrapped (w : IVec S1024x200x15 32) : IVec S1024x200x15x1 32 :=
  broadcastInDim S1024x200x15x1 ![0, 1, 2] bcast_S1024x200x15_S1024x200x15x1_0_1_2
    (select (cmpi .slt w (broadcastInDim S1024x200x15 ![] bcast_S_S1024x200x15 (constantI S_ 32 0#32)))
      (addi w (broadcastInDim S1024x200x15 ![] bcast_S_S1024x200x15 (constantI S_ 32 64#32))) w)

/-- Where an index is inside the table. -/
def inside (i : IVec S1024x200x15x1 32) : IVec S1024x200x15x1 1 :=
  andi (cmpi .sge i (broadcastInDim S1024x200x15x1 ![] bcast_S_S1024x200x15x1 (constantI S_ 32 0#32)))
    (cmpi .sle i (broadcastInDim S1024x200x15x1 ![0, 1, 2, 3] bcast_S1x1x1x1_S1024x200x15x1_0_1_2_3
      (broadcastInDim S1x1x1x1 ![3] bcast_S1_S1x1x1x1_3 (constantI S1 32 63#32))))

/-- The rows of a table that the index words name; not a number where one is outside the table. -/
def lookup (x : FVec Ideal S64x8 .f32) (w : IVec S1024x200x15 32) : FVec Ideal S1024x200x15x8 .f32 :=
  select (broadcastInDim S1024x200x15x8 ![0, 1, 2] bcast_S1024x200x15_S1024x200x15x8_0_1_2
      (Host.reduce IntOp.andi (inside (wrapped w)) (constantI S_ 1 1#1) reducesTo_S1024x200x15x1_S1024x200x15_d3 h_S_))
    (Host.gather gather_S64x8_S1024x200x15x1_S1024x200x15x8_3_0_n_n_0_3_18 x (wrapped w))
    (broadcastInDim S1024x200x15x8 ![] bcast_S_S1024x200x15x8 (constant S_ .f32 0x7FC00000#32))

/-- The gather at an index, where the index word names a row. -/
theorem gather_apply (x : FVec Ideal S64x8 .f32) (i : IVec S1024x200x15x1 32) (b : Fin 1024) (S : Fin 200) (k : Fin 15)
    (e : Fin 8) (v : Fin 64) (hv : (i (ix4 b S k 0)).toInt = (v.val : ℤ)) :
    Host.gather gather_S64x8_S1024x200x15x1_S1024x200x15x8_3_0_n_n_0_3_18 x i (ix4 b S k e) = x (ix2 v e) := by
  unfold Host.gather
  refine congrArg x (funext fun a => Fin.ext ?_)
  let d := gather_S64x8_S1024x200x15x1_S1024x200x15x8_3_0_n_n_0_3_18
  show d.start (ix4 b S k e) i a + d.batchCoord (ix4 b S k e) a + d.offCoord (ix4 b S k e) a = _
  rw [d.batchCoord_eq_zero _ _ List.not_mem_nil, Nat.add_zero]
  match a with
  | ⟨0, _⟩ =>
    have hsi : d.siIdx (ix4 b S k e) ⟨0, by decide⟩ = ix4 b S k 0 := by
      funext n
      match n with
      | ⟨0, _⟩ => rfl
      | ⟨1, _⟩ => rfl
      | ⟨2, _⟩ => rfl
      | ⟨3, _⟩ => rfl
    have hst : d.start (ix4 b S k e) i (0 : Fin 2) = min (i (d.siIdx (ix4 b S k e) ⟨0, by decide⟩)).toInt.toNat 63 := rfl
    have hof : d.offCoord (ix4 b S k e) (0 : Fin 2) = 0 := rfl
    have := v.isLt
    refine (congrArg₂ (· + ·) hst hof).trans ?_
    rw [hsi, hv]
    show min v.val 63 + 0 = v.val
    omega
  | ⟨1, _⟩ => exact Nat.zero_add _

/-- An index word in `[0, 64)` is taken as it is. -/
theorem wrapped_apply (w : IVec S1024x200x15 32) (b : Fin 1024) (S : Fin 200) (k : Fin 15) (z : Fin 1)
    (h : 0 ≤ (w (ix3 b S k)).toInt) : wrapped w (ix4 b S k z) = w (ix3 b S k) := by
  unfold wrapped
  pointwise
  have hn : IntOp.cmpi CmpIPredicate.slt (w (ix3 b S k)) 0#32 ≠ 1#1 := fun e => by
    have : (w (ix3 b S k)).toInt < 0 := IntOp.cmpi_slt.mp e
    omega
  exact if_neg hn

/-- An index word in `[0, 64)` is inside the table. -/
theorem inside_apply (w : IVec S1024x200x15 32) (b : Fin 1024) (S : Fin 200) (k : Fin 15) (z : Fin 1)
    (h0 : 0 ≤ (w (ix3 b S k)).toInt) (h1 : (w (ix3 b S k)).toInt < 64) : inside (wrapped w) (ix4 b S k z) = 1#1 := by
  have e := wrapped_apply w b S k z h0
  unfold inside
  pointwise
  rw [e]
  have hge : IntOp.cmpi CmpIPredicate.sge (w (ix3 b S k)) 0#32 = 1#1 := IntOp.cmpi_sge.mpr h0
  have hle : IntOp.cmpi CmpIPredicate.sle (w (ix3 b S k)) 63#32 = 1#1 :=
    IntOp.cmpi_sle.mpr (by show (w (ix3 b S k)).toInt ≤ 63; omega)
  rw [hge, hle]
  rfl

/-- A look-up of an index word that names a row is that row. -/
theorem lookup_apply (x : FVec Ideal S64x8 .f32) (w : IVec S1024x200x15 32)
    (b : Fin 1024) (S : Fin 200) (k : Fin 15) (e : Fin 8) (v : Fin 64) (hv : (w (ix3 b S k)).toInt = (v.val : ℤ)) :
    lookup x w (ix4 b S k e) = x (ix2 v e) := by
  have h0 : 0 ≤ (w (ix3 b S k)).toInt := by omega
  have h1 : (w (ix3 b S k)).toInt < 64 := by have := v.isLt; omega
  have hg := gather_apply x (wrapped w) b S k e v (by rw [wrapped_apply w b S k 0 h0]; exact hv)
  unfold lookup
  pointwise
  simp only [inside_apply w b S k _ h0 h1]
  refine Eq.trans ?_ hg
  rfl

end Cert.ReferenceIdeal.Look

end
-- ==== Proof.RefRes.lean ====
/- The reference's result at an index: the 240 looked-up numbers of a batch and a step against the weights, and the bias. -/
module

public import proofs.«01_k».proof.Proof.RefVal

@[expose] public section

set_option maxRecDepth 16384

noncomputable section

namespace Cert.ReferenceIdeal.Look

open Cert.ReferenceIdeal Cert.ReferenceIdeal.Gen Cert.ReferenceIdeal.Value
open Idealize.ShloMosaic Idealize.ShloMosaic.TcCoe
open scoped BigOperators

/-- The looked-up numbers in one row per batch and step, the goals' first. -/
def joined (g r : FVec Ideal S1024x200x15x8 .f32) : FVec Ideal S1024x200x240 .f32 :=
  concatenate S1024x200x240 2
    [⟨S1024x200x120, shapeCast _ g shapeCasts_S1024x200x15x8_S1024x200x120⟩,
      ⟨S1024x200x120, shapeCast _ r shapeCasts_S1024x200x15x8_S1024x200x120⟩]
    concatenates_S1024x200x120_S1024x200x120_S1024x200x240_d2

/-- The dense layer. -/
def dense (x : FVec Ideal S1024x200x240 .f32) (w : FVec Ideal S240x64 .f32) (bias : FVec Ideal S64 .f32) :
    FVec Ideal S1024x200x64 .f32 :=
  addf (Host.dotGeneral dot_S1024x200x240_S240x64_S1024x200x64_2_0_01_1_n_n none x w)
    (broadcastInDim S1024x200x64 ![0, 1, 2] bcast_S1x1x64_S1024x200x64_0_1_2
      (broadcastInDim S1x1x64 ![2] bcast_S64_S1x1x64_2 bias))

theorem joined_apply (g r : FVec Ideal S1024x200x15x8 .f32) (b : Fin 1024) (S : Fin 200) (k : Fin 240) :
    joined g r (ix3 b S k)
      = if h : k.val < 120 then g (ix4 b S ⟨k.val / 8, by omega⟩ ⟨k.val % 8, by omega⟩)
        else r (ix4 b S ⟨(k.val - 120) / 8, by omega⟩ ⟨(k.val - 120) % 8, by omega⟩) := by
  unfold joined
  pointwise

theorem dense_apply (x : FVec Ideal S1024x200x240 .f32) (w : FVec Ideal S240x64 .f32) (bias : FVec Ideal S64 .f32)
    (b : Fin 1024) (S : Fin 200) (h : Fin 64) :
    dense x w bias (ix3 b S h) = (∑ k : Fin 240, x (ix3 b S k) * w (ix2 k h)) + bias (ix1 h) := by
  unfold dense
  pointwise

theorem res_eq (m : (ℓ : Loc nD τ sig) → Buf (Elt Ideal) ℓ) (c : Dev nD) :
    res_out0 m c = dense (joined (lookup (m ((c.tc : Thread nD τ).loc main_arg2)) (m ((c.tc : Thread nD τ).loc main_arg0)))
        (lookup (m ((c.tc : Thread nD τ).loc main_arg3)) (m ((c.tc : Thread nD τ).loc main_arg1))))
      (m ((c.tc : Thread nD τ).loc main_arg4)) (m ((c.tc : Thread nD τ).loc main_arg5)) := by
  unfold res_out0 res_main_v8 dense joined lookup inside wrapped
  rfl

end Cert.ReferenceIdeal.Look

end
-- ==== Proof.Sums.lean ====
/- The kernel's sum of picked table columns and the reference's dense layer are the same sum: the table's column for a
   feature and a table row is that row against the feature's eight weights. -/
module

public import proofs.«01_k».proof.Proof.KValue
public import proofs.«01_k».proof.Proof.RefRes

@[expose] public section

set_option maxRecDepth 16384

noncomputable section

namespace Cert.Equal

open Idealize.ShloMosaic Idealize.ShloMosaic.TcCoe
open Cert.KernelIdeal Cert.KernelIdeal.Fold
open Cert.ReferenceIdeal.Look (lookup joined dense lookup_apply joined_apply dense_apply)
open scoped BigOperators

theorem block_lt {n k N : ℕ} (hN : N = n * k) (j : Fin n) (v : Fin k) : k * j.val + v.val < N := by
  subst hN
  calc k * j.val + v.val < k * (j.val + 1) := by rw [Nat.mul_succ]; exact Nat.add_lt_add_left v.isLt _
    _ ≤ k * n := Nat.mul_le_mul_left k j.isLt
    _ = n * k := Nat.mul_comm k n

/-- A sum over `n k` terms in `n` blocks of `k`. -/
theorem sum_blocks {n k N : ℕ} (hN : N = n * k) (f : Fin N → EReal) :
    ∑ c, f c = ∑ j : Fin n, ∑ v : Fin k, f ⟨k * j.val + v.val, block_lt hN j v⟩ := by
  subst hN
  rw [← finProdFinEquiv.sum_comp, Fintype.sum_prod_type]
  refine Finset.sum_congr rfl fun j _ => Finset.sum_congr rfl fun v _ => congrArg f (Fin.ext ?_)
  rw [finProdFinEquiv_apply_val]
  exact Nat.add_comm _ _

/-- The table row that an index word in `[0, 16)` names. -/
def row (w : BitVec 32) : Fin 16 := ⟨w.toInt.toNat % 16, Nat.mod_lt _ (by decide)⟩

theorem row_val {w : BitVec 32} (h0 : 0 ≤ w.toInt) (h1 : w.toInt < 16) : ((row w).val : ℤ) = w.toInt := by
  show ((w.toInt.toNat % 16 : ℕ) : ℤ) = w.toInt
  omega

/-- Of each feature's sixteen columns the one its index names is picked, and the last column always. -/
theorem pickAt_eq (t : Fin 481 → EReal) (g r : Fin 15 → BitVec 32)
    (hf : ∀ j : Fin 30, 0 ≤ (feat g r j.val).toInt ∧ (feat g r j.val).toInt < 16) :
    pickAt t g r = (∑ j : Fin 30, t ⟨16 * j.val + (row (feat g r j.val)).val, by omega⟩) + t ⟨480, by decide⟩ := by
  unfold pickAt
  rw [Fin.sum_univ_castSucc, sum_blocks (n := 30) (k := 16) rfl]
  refine congrArg₂ (· + ·) (Finset.sum_congr rfl fun j _ => ?_) ?_
  · have hr := row_val (hf j).1 (hf j).2
    rw [Finset.sum_eq_single (row (feat g r j.val))]
    · rw [if_pos, mul_one]
      · rfl
      · intro _
        show (feat g r ((16 * j.val + (row (feat g r j.val)).val) / 16)).toInt
          = (((16 * j.val + (row (feat g r j.val)).val) % 16 : ℕ) : ℤ)
        have e : (16 * j.val + (row (feat g r j.val)).val) / 16 = j.val := by omega
        rw [e]
        omega
    · intro v _ hv
      rw [if_neg, mul_zero]
      intro hh
      apply hv
      have hh' : (feat g r ((16 * j.val + v.val) / 16)).toInt = (((16 * j.val + v.val) % 16 : ℕ) : ℤ) :=
        hh (by show 16 * j.val + v.val < 480; omega)
      have e : (16 * j.val + v.val) / 16 = j.val := by omega
      rw [e] at hh'
      exact Fin.ext (by omega)
    · intro hn
      exact absurd (Finset.mem_univ _) hn
  · rw [if_pos, mul_one]
    · rfl
    · intro hh
      exact absurd hh (by show ¬ (480 < 480); decide)

variable (x0 x1 : IVec S1024x200x15 32) (x2 x3 : FVec Ideal S64x8 .f32) (x4 : FVec Ideal S240x64 .f32) (x5 : FVec Ideal S64 .f32)

/-- A looked-up number of feature `j`: entry `e` of the row its index names. -/
theorem joined_feature (h0 : ∀ i, 0 ≤ (x0 i).toInt ∧ (x0 i).toInt < 16) (h1 : ∀ i, 0 ≤ (x1 i).toInt ∧ (x1 i).toInt < 16)
    (b : Fin 1024) (S : Fin 200) (j : Fin 30) (e : Fin 8) (k : Fin 240) (hk : k.val = 8 * j.val + e.val) :
    joined (lookup x2 x0) (lookup x3 x1) (ix3 b S k)
      = tab x2 x3 j.val
          (ix2 ⟨(row (feat (fun i => x0 (ix3 b S i)) (fun i => x1 (ix3 b S i)) j.val)).val, by omega⟩ e) := by
  rw [joined_apply]
  unfold tab
  by_cases h : j.val < 15
  · have hj : (⟨k.val / 8, by omega⟩ : Fin 15) = ⟨j.val, h⟩ := Fin.ext (by show k.val / 8 = j.val; omega)
    have he : (⟨k.val % 8, by omega⟩ : Fin 8) = e := Fin.ext (by show k.val % 8 = e.val; omega)
    have hf : feat (fun i => x0 (ix3 b S i)) (fun i => x1 (ix3 b S i)) j.val = x0 (ix3 b S ⟨j.val, h⟩) := dif_pos h
    rw [dif_pos (by omega), if_pos h, hj, he]
    refine lookup_apply x2 x0 b S _ e _ ?_
    show _ = ((row _).val : ℤ)
    rw [hf, row_val (h0 _).1 (h0 _).2]
  · have hj : (⟨(k.val - 120) / 8, by omega⟩ : Fin 15) = ⟨j.val - 15, by omega⟩ :=
      Fin.ext (by show (k.val - 120) / 8 = j.val - 15; omega)
    have he : (⟨(k.val - 120) % 8, by omega⟩ : Fin 8) = e := Fin.ext (by show (k.val - 120) % 8 = e.val; omega)
    have hf : feat (fun i => x0 (ix3 b S i)) (fun i => x1 (ix3 b S i)) j.val = x1 (ix3 b S ⟨j.val - 15, by omega⟩) :=
      (dif_neg h).trans (dif_pos (by omega))
    rw [dif_neg (by omega), if_neg h, hj, he]
    refine lookup_apply x3 x1 b S _ e _ ?_
    show _ = ((row _).val : ℤ)
    rw [hf, row_val (h1 _).1 (h1 _).2]

/-- The two programs' results at an index. -/
theorem pick_eq_dense (h0 : ∀ i, 0 ≤ (x0 i).toInt ∧ (x0 i).toInt < 16) (h1 : ∀ i, 0 ≤ (x1 i).toInt ∧ (x1 i).toInt < 16)
    (hc : S64.ShapeCasts S64x1) (b : Fin 1024) (S : Fin 200) (h : Fin 64) :
    pickAt (fun d => T x2 x3 x4 (shapeCast S64x1 x5 hc) (ix2 h d)) (fun k => x0 (ix3 b S k)) (fun k => x1 (ix3 b S k))
      = dense (joined (lookup x2 x0) (lookup x3 x1)) x4 x5 (ix3 b S h) := by
  rw [dense_apply, pickAt_eq]
  · refine congrArg₂ (· + ·) ?_ ?_
    · rw [sum_blocks (n := 30) (k := 8) rfl]
      refine Finset.sum_congr rfl fun j _ => ?_
      rw [T_feature x2 x3 x4 _ h j _ _ rfl]
      refine Finset.sum_congr rfl fun e _ => ?_
      rw [joined_feature x0 x1 x2 x3 h0 h1 b S j e _ rfl, mul_comm]
    · rw [T_bias _ _ _ _ h _ rfl]
      pointwise
  · intro j
    unfold feat
    split
    · exact h0 _
    · rw [dif_pos (by omega)]
      exact h1 _

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import proofs.«01_k».proof.Proof.Gen.ReferenceIdeal.Run
public import Idealize.ShloMosaic.Adequacy
public import Idealize.ShloMosaic.Init
public import Idealize.ShloMosaic.Lib.Quiescent
public import proofs.«01_k».proof.Proof.KRun
public import proofs.«01_k».proof.Proof.PreBounds
public import proofs.«01_k».proof.Proof.Sums

@[expose] public section

noncomputable section

namespace Cert.Proof

open Idealize.ShloMosaic Idealize.SL.Sem Cert.Kernel

/-- The reference ends with its arguments as launched and every counter at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two results agree at every index. -/
theorem result_eq (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (x0 x1 : IVec Cert.KernelIdeal.S1024x200x15 32) (x2 x3 : FVec Ideal Cert.KernelIdeal.S64x8 .f32)
    (x4 : FVec Ideal Cert.KernelIdeal.S240x64 .f32) (x5 : FVec Ideal Cert.KernelIdeal.S64 .f32)
    (h0 : ∀ i, 0 ≤ (x0 i).toInt ∧ (x0 i).toInt < 16) (h1 : ∀ i, 0 ≤ (x1 i).toInt ∧ (x1 i).toInt < 16)
    (k0 : m ((c.tc : Thread Cert.KernelIdeal.nD Cert.KernelIdeal.τ).loc Cert.KernelIdeal.main_arg0) = x0)
    (k1 : m ((c.tc : Thread Cert.KernelIdeal.nD Cert.KernelIdeal.τ).loc Cert.KernelIdeal.main_arg1) = x1)
    (k2 : m ((c.tc : Thread Cert.KernelIdeal.nD Cert.KernelIdeal.τ).loc Cert.KernelIdeal.main_arg2) = x2)
    (k3 : m ((c.tc : Thread Cert.KernelIdeal.nD Cert.KernelIdeal.τ).loc Cert.KernelIdeal.main_arg3) = x3)
    (k4 : m ((c.tc : Thread Cert.KernelIdeal.nD Cert.KernelIdeal.τ).loc Cert.KernelIdeal.main_arg4) = x4)
    (k5 : m ((c.tc : Thread Cert.KernelIdeal.nD Cert.KernelIdeal.τ).loc Cert.KernelIdeal.main_arg5) = x5)
    (r0 : m' ((c.tc : Thread Cert.ReferenceIdeal.nD Cert.ReferenceIdeal.τ).loc Cert.ReferenceIdeal.main_arg0) = x0)
    (r1 : m' ((c.tc : Thread Cert.ReferenceIdeal.nD Cert.ReferenceIdeal.τ).loc Cert.ReferenceIdeal.main_arg1) = x1)
    (r2 : m' ((c.tc : Thread Cert.ReferenceIdeal.nD Cert.ReferenceIdeal.τ).loc Cert.ReferenceIdeal.main_arg2) = x2)
    (r3 : m' ((c.tc : Thread Cert.ReferenceIdeal.nD Cert.ReferenceIdeal.τ).loc Cert.ReferenceIdeal.main_arg3) = x3)
    (r4 : m' ((c.tc : Thread Cert.ReferenceIdeal.nD Cert.ReferenceIdeal.τ).loc Cert.ReferenceIdeal.main_arg4) = x4)
    (r5 : m' ((c.tc : Thread Cert.ReferenceIdeal.nD Cert.ReferenceIdeal.τ).loc Cert.ReferenceIdeal.main_arg5) = x5) :
    Cert.ReferenceIdeal.Value.res_main_v8 m' c
      = Cert.KernelIdeal.Gen.W5 m g c (Proc.devRef .tc Cert.KernelIdeal.main_v6) := by
  refine (Cert.ReferenceIdeal.Look.res_eq m' c).trans ?_
  rw [r0, r1, r2, r3, r4, r5]
  funext i
  idx_vars i
  refine Eq.trans ?_ (Cert.KernelIdeal.Fold.result_apply m g c i0 i1 i2).symm
  unfold Cert.KernelIdeal.Fold.TA
  rw [k0, k1, k2, k3, k4, k5]
  exact (Cert.Equal.pick_eq_dense x0 x1 x2 x3 x4 x5 h0 h1 _ i0 i1 i2).symm

theorem claim : Cert.Claim := ⟨Cert.Kernel.Gen.facts, Cert.KernelIdeal.Gen.facts, Cert.ReferenceIdeal.Gen.facts, Cert.Pre_in_range.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial,
  fun m g m' g' hpre hargs => ⟨fun c => Cert.KernelIdeal.Gen.W5 m g c (Proc.devRef .tc Cert.KernelIdeal.main_v6),
    Cert.KernelIdeal.Fold.run m g,
    (θ_run Cert.ReferenceIdeal.defs _ _).mono (fun r h c => ⟨(h c).1.trans (by
      obtain ⟨a0, a1, a2, a3, a4, a5, _⟩ := hargs c
      obtain ⟨h0, h1⟩ := Cert.Pre_in_range.Bounds.bounds _ _ _ _ _ _ _ (fun a => a.elim0) (congrFun (hpre c) _)
      exact result_eq m g m' c _ _ _ _ _ _ h0 h1 rfl rfl rfl rfl rfl rfl a0 a1 a2 a3 a4 a5), (h c).2⟩)
      (Cert.ReferenceIdeal.Value.run (F := Ideal) m' g')⟩⟩

end Cert.Proof

end
